-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x256 : Shape := ⟨3, ![16, 1024, 256]⟩
abbrev S256x32 : Shape := ⟨2, ![256, 32]⟩
abbrev S32 : Shape := ⟨1, ![32]⟩
abbrev S8192x32 : Shape := ⟨2, ![8192, 32]⟩
abbrev S16384x256 : Shape := ⟨2, ![16384, 256]⟩
abbrev S1x32 : Shape := ⟨2, ![1, 32]⟩
abbrev S16384x32 : Shape := ⟨2, ![16384, 32]⟩
abbrev S256x256 : Shape := ⟨2, ![256, 256]⟩
abbrev S16x1024x32 : Shape := ⟨3, ![16, 1024, 32]⟩
abbrev S_ : Shape := ⟨0, ![]⟩
abbrev S8192 : Shape := ⟨1, ![8192]⟩
abbrev S16384 : Shape := ⟨1, ![16384]⟩
abbrev S16384x1 : Shape := ⟨2, ![16384, 1]⟩
abbrev S1x8192 : Shape := ⟨2, ![1, 8192]⟩
abbrev S16384x8192 : Shape := ⟨2, ![16384, 8192]⟩
abbrev S32x8192 : Shape := ⟨2, ![32, 8192]⟩
abbrev S1 : Shape := ⟨1, ![1]⟩
abbrev S1x1 : Shape := ⟨2, ![1, 1]⟩

abbrev nBuf : Space → Nat
  | .hbm => 73
  | .vmem => 6
  | .smem => 0
  | _ => 0

abbrev bufTy : (tb : Table) → Fin (tcTables nBuf tb) → BufTy
  | .hbm, ⟨0, _⟩ => ⟨S16x1024x256, .f32⟩
  | .hbm, ⟨1, _⟩ => ⟨S256x32, .f32⟩
  | .hbm, ⟨2, _⟩ => ⟨S32, .f32⟩
  | .hbm, ⟨3, _⟩ => ⟨S8192x32, .f32⟩
  | .hbm, ⟨4, _⟩ => ⟨S16384x256, .f32⟩
  | .hbm, ⟨5, _⟩ => ⟨S1x32, .f32⟩
  | .hbm, ⟨6, _⟩ => ⟨S16384x32, .f32⟩
  | .hbm, ⟨7, _⟩ => ⟨S16x1024x32, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S16384x32, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S1x8192, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S32x8192, .f32⟩
  | .hbm, ⟨20, _⟩ => ⟨S16384x8192, .f32⟩
  | .hbm, ⟨21, _⟩ => ⟨S_, .f32⟩
  | .hbm, ⟨22, _⟩ => ⟨S16384x8192, .f32⟩
  | .hbm, ⟨23, _⟩ => ⟨S16384x8192, .f32⟩
  | .hbm, ⟨24, _⟩ => ⟨S16384x8192, .f32⟩
  | .hbm, ⟨25, _⟩ => ⟨S16384x8192, .i32⟩
  | .hbm, ⟨26, _⟩ => ⟨S_, .f32⟩
  | .hbm, ⟨27, _⟩ => ⟨S_, .i32⟩
  | .hbm, ⟨28, _⟩ => ⟨S16384, .f32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S1, .i32⟩
  | .hbm, ⟨39, _⟩ => ⟨S_, .i32⟩
  | .hbm, ⟨40, _⟩ => ⟨S16384x1, .i32⟩
  | .hbm, ⟨41, _⟩ => ⟨S16384x1, .i1⟩
  | .hbm, ⟨42, _⟩ => ⟨S1x1, .i32⟩
  | .hbm, ⟨43, _⟩ => ⟨S16384x1, .i32⟩
  | .hbm, ⟨44, _⟩ => ⟨S16384x1, .i1⟩
  | .hbm, ⟨45, _⟩ => ⟨S16384x1, .i1⟩
  | .hbm, ⟨46, _⟩ => ⟨S_, .i1⟩
  | .hbm, ⟨47, _⟩ => ⟨S16384, .i1⟩
  | .hbm, ⟨48, _⟩ => ⟨S16384x32, .f32⟩
  | .hbm, ⟨49, _⟩ => ⟨S16384x32, .i1⟩
  | .hbm, ⟨50, _⟩ => ⟨S_, .f32⟩
  | .hbm, ⟨51, _⟩ => ⟨S16384x32, .f32⟩
  | .hbm, ⟨52, _⟩ => ⟨S16384x32, .f32⟩
  | .hbm, ⟨53, _⟩ => ⟨S16x1024x32, .f32⟩
  | .hbm, ⟨54, _⟩ => ⟨S16x1024x32, .f32⟩
  | .hbm, ⟨55, _⟩ => ⟨S16x1024x32, .f32⟩
  | .hbm, ⟨56, _⟩ => ⟨S16x1024x32, .f32⟩
  | .hbm, ⟨57, _⟩ => ⟨S16x1024x32, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S16x1024x32, .f32⟩
  | .hbm, ⟨63, _⟩ => ⟨S16x1024x32, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S256x32, .f32⟩
  | .local _ .vmem, ⟨3, _⟩ => ⟨S1x32, .f32⟩
  | .local _ .vmem, ⟨4, _⟩ => ⟨S256x32, .f32⟩
  | .local _ .vmem, ⟨5, _⟩ => ⟨S256x32, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v18 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_2 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_4 : Ref sig .tc := ⟨.hbm, 64, rfl⟩
abbrev main_v29 : Ref sig .tc := ⟨.hbm, 65, rfl⟩
abbrev main_cst_5 : Ref sig .tc := ⟨.hbm, 66, rfl⟩
abbrev main_v30 : Ref sig .tc := ⟨.hbm, 67, rfl⟩
abbrev main_cst_6 : Ref sig .tc := ⟨.hbm, 68, rfl⟩
abbrev main_v31 : Ref sig .tc := ⟨.hbm, 69, rfl⟩
abbrev main_cst_7 : Ref sig .tc := ⟨.hbm, 70, rfl⟩
abbrev main_v32 : Ref sig .tc := ⟨.hbm, 71, rfl⟩
abbrev main_v33 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x1024x256 : Shape := ⟨3, ![16, 1024, 256]⟩
abbrev S256x32 : Shape := ⟨2, ![256, 32]⟩
abbrev S32 : Shape := ⟨1, ![32]⟩
abbrev S8192x32 : Shape := ⟨2, ![8192, 32]⟩
abbrev S16x1024x32 : Shape := ⟨3, ![16, 1024, 32]⟩
abbrev S1x1x32 : Shape := ⟨3, ![1, 1, 32]⟩
abbrev S16384x32 : Shape := ⟨2, ![16384, 32]⟩
abbrev S_ : Shape := ⟨0, ![]⟩
abbrev S8192 : Shape := ⟨1, ![8192]⟩
abbrev S16384 : Shape := ⟨1, ![16384]⟩
abbrev S16384x1 : Shape := ⟨2, ![16384, 1]⟩
abbrev S1x8192 : Shape := ⟨2, ![1, 8192]⟩
abbrev S16384x8192 : Shape := ⟨2, ![16384, 8192]⟩
abbrev S32x8192 : Shape := ⟨2, ![32, 8192]⟩
abbrev S1 : Shape := ⟨1, ![1]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S256x32, .f32⟩
  | .hbm, ⟨2, _⟩ => ⟨S32, .f32⟩
  | .hbm, ⟨3, _⟩ => ⟨S8192x32, .f32⟩
  | .hbm, ⟨4, _⟩ => ⟨S16x1024x32, .f32⟩
  | .hbm, ⟨5, _⟩ => ⟨S1x1x32, .f32⟩
  | .hbm, ⟨6, _⟩ => ⟨S16x1024x32, .f32⟩
  | .hbm, ⟨7, _⟩ => ⟨S16x1024x32, .f32⟩
  | .hbm, ⟨8, _⟩ => ⟨S16384x32, .f32⟩
  | .hbm, ⟨9, _⟩ => ⟨S8192x32, .f32⟩
  | .hbm, ⟨10, _⟩ => ⟨S_, .f32⟩
  | .hbm, ⟨11, _⟩ => ⟨S8192, .f32⟩
  | .hbm, ⟨12, _⟩ => ⟨S16384x32, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S1x8192, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S32x8192, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S16384x8192, .i32⟩
  | .hbm, ⟨27, _⟩ => ⟨S_, .f32⟩
  | .hbm, ⟨28, _⟩ => ⟨S_, .i32⟩
  | .hbm, ⟨29, _⟩ => ⟨S16384, .f32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S1, .i32⟩
  | .hbm, ⟨40, _⟩ => ⟨S_, .i32⟩
  | .hbm, ⟨41, _⟩ => ⟨S16384x1, .i32⟩
  | .hbm, ⟨42, _⟩ => ⟨S16384x1, .i1⟩
  | .hbm, ⟨43, _⟩ => ⟨S1x1, .i32⟩
  | .hbm, ⟨44, _⟩ => ⟨S16384x1, .i32⟩
  | .hbm, ⟨45, _⟩ => ⟨S16384x1, .i1⟩
  | .hbm, ⟨46, _⟩ => ⟨S16384x1, .i1⟩
  | .hbm, ⟨47, _⟩ => ⟨S_, .i1⟩
  | .hbm, ⟨48, _⟩ => ⟨S16384, .i1⟩
  | .hbm, ⟨49, _⟩ => ⟨S16384x32, .f32⟩
  | .hbm, ⟨50, _⟩ => ⟨S16384x32, .i1⟩
  | .hbm, ⟨51, _⟩ => ⟨S_, .f32⟩
  | .hbm, ⟨52, _⟩ => ⟨S16384x32, .f32⟩
  | .hbm, ⟨53, _⟩ => ⟨S16384x32, .f32⟩
  | .hbm, ⟨54, _⟩ => ⟨S16x1024x32, .f32⟩
  | .hbm, ⟨55, _⟩ => ⟨S16x1024x32, .f32⟩
  | .hbm, ⟨56, _⟩ => ⟨S16x1024x32, .f32⟩
  | .hbm, ⟨57, _⟩ => ⟨S16x1024x32, .f32⟩
  | .hbm, ⟨58, _⟩ => ⟨S16x1024x32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S16x1024x32, .f32⟩
  | .hbm, ⟨64, _⟩ => ⟨S16x1024x32, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_cst : Ref sig .tc := ⟨.hbm, 27, rfl⟩
abbrev main_call0_c : Ref sig .tc := ⟨.hbm, 28, rfl⟩
abbrev main_call0_v1_0 : Ref sig .tc := ⟨.hbm, 29, rfl⟩
abbrev main_v19 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_2 : Ref sig .tc := ⟨.hbm, 59, rfl⟩
abbrev main_v26 : Ref sig .tc := ⟨.hbm, 60, rfl⟩
abbrev main_cst_3 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_4 : Ref sig .tc := ⟨.hbm, 65, rfl⟩
abbrev main_v30 : Ref sig .tc := ⟨.hbm, 66, rfl⟩
abbrev main_cst_5 : Ref sig .tc := ⟨.hbm, 67, rfl⟩
abbrev main_v31 : Ref sig .tc := ⟨.hbm, 68, rfl⟩
abbrev main_cst_6 : Ref sig .tc := ⟨.hbm, 69, rfl⟩
abbrev main_v32 : Ref sig .tc := ⟨.hbm, 70, rfl⟩
abbrev main_cst_7 : Ref sig .tc := ⟨.hbm, 71, rfl⟩
abbrev main_v33 : Ref sig .tc := ⟨.hbm, 72, rfl⟩
abbrev main_v34 : Ref sig .tc := ⟨.hbm, 73, rfl⟩

abbrev nD : Nat := 1
abbrev τ : Topo := Topo.v7x

variable {F : FTy → Type} [FloatOps F]
-- ==== Proof.Functions.lean ====
/- What the quantiser computes, as plain functions of arrays over the idealized numbers: the latents, the squared
   distances to the codebook, the nearest entry, the entries taken, the straight-through output and the loss. -/
module

public import proofs.«01_k».proof.Defs
public import proofs.«01_k».proof.Proof.Gen.ReferenceIdeal
public import Idealize.ShloMosaic.Lib.Pointwise

@[expose] public section

noncomputable section

namespace Cert.Quantiser

open Idealize.ShloMosaic
open Cert.ReferenceIdeal
open Cert.ReferenceIdeal.Facts₀ Cert.ReferenceIdeal.Facts

/-- The latents `z = h · W + b`, by batch, position and channel. -/
def latents (h : FVec Ideal S16x1024x256 .f32) (W : FVec Ideal S256x32 .f32) (b : FVec Ideal S32 .f32) :
    FVec Ideal S16x1024x32 .f32 :=
  addf (Host.dotGeneral dot_S16x1024x256_S256x32_S16x1024x32_2_0_01_1_n_n none h W)
    (broadcastInDim S16x1024x32 ![0, 1, 2] bcast_S1x1x32_S16x1024x32_0_1_2
      (broadcastInDim S1x1x32 ![2] bcast_S32_S1x1x32_2 b))

/-- An array of vectors by batch and position, laid out as 16384 rows. -/
def rows (z : FVec Ideal S16x1024x32 .f32) : FVec Ideal S16384x32 .f32 :=
  shapeCast S16384x32 z shapeCasts_S16x1024x32_S16384x32

/-- 16384 rows, laid out by batch and position. -/
def unrows (x : FVec Ideal S16384x32 .f32) : FVec Ideal S16x1024x32 .f32 :=
  shapeCast S16x1024x32 x shapeCasts_S16384x32_S16x1024x32

/-- The squared distance of every row to every codebook entry, expanded: `|c|² + |x|² − 2 x·c`. -/
def distances (x : FVec Ideal S16384x32 .f32) (cb : FVec Ideal S8192x32 .f32) : FVec Ideal S16384x8192 .f32 :=
  subf
    (addf
      (broadcastInDim S16384x8192 ![0, 1] bcast_S1x8192_S16384x8192_0_1
        (broadcastInDim S1x8192 ![1] bcast_S8192_S1x8192_1
          (Host.reduceAdd (mulf cb cb) (constant (F := Ideal) S_ .f32 0x00000000#32) reducesTo_S8192x32_S8192_d1 h_S_)))
      (broadcastInDim S16384x8192 ![0, 1] bcast_S16384x1_S16384x8192_0_1
        (broadcastInDim S16384x1 ![0] bcast_S16384_S16384x1_0
          (Host.reduceAdd (mulf x x) (constant (F := Ideal) S_ .f32 0x00000000#32) reducesTo_S16384x32_S16384_d1 h_S_))))
    (mulf (broadcastInDim S16384x8192 ![] bcast_S_S16384x8192 (constant (F := Ideal) S_ .f32 0x40000000#32))
      (Host.dotGeneral dot_S16384x32_S32x8192_S16384x8192_1_0_0_1_n_n none x
        (transpose S32x8192 [1, 0] cb transposes_S8192x32_S32x8192_1_0)))

/-- For every row the index of the codebook entry at the least distance. -/
def nearest (d : FVec Ideal S16384x8192 .f32) : IVec S16384 32 := fun j =>
  (Host.argReduce reducer_argmin_f32_i32 d (iotaInDim S16384x8192 32 1) (constant (F := Ideal) S_ .f32 0x7F800000#32)
    (constantI S_ 32 0#32) reducesTo_S16384x8192_S16384_d1 h_S_ j).2

/-- An index counted from the end where negative, as a column. -/
def wrapped (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 8192#32))) i)

/-- The codebook's entries at an index column; not a number where an index is out of range. -/
def entriesAt (cb : FVec Ideal S8192x32 .f32) (i : IVec S16384x1 32) : FVec Ideal S16384x32 .f32 :=
  select
    (broadcastInDim S16384x32 ![0] bcast_S16384_S16384x32_0
      (Host.reduce IntOp.andi
        (andi (cmpi .sge i (broadcastInDim S16384x1 ![] bcast_S_S16384x1 (constantI S_ 32 0#32)))
          (cmpi .sle i (broadcastInDim S16384x1 ![0, 1] bcast_S1x1_S16384x1_0_1
            (broadcastInDim S1x1 ![1] bcast_S1_S1x1_1 (constantI S1 32 8191#32)))))
        (constantI S_ 1 1#1) reducesTo_S16384x1_S16384_d1 h_S_))
    (Host.gather gather_S8192x32_S16384x1_S16384x32_1_0_n_n_0_1_132 cb i)
    (broadcastInDim S16384x32 ![] bcast_S_S16384x32 (constant (F := Ideal) S_ .f32 0x7FC00000#32))

/-- The codebook's entries at the given indices. -/
def entries (cb : FVec Ideal S8192x32 .f32) (i : IVec S16384 32) : FVec Ideal S16384x32 .f32 :=
  entriesAt cb (wrapped i)

/-- The straight-through output `z + (q − z)`. -/
def straightThrough (z q : FVec Ideal S16x1024x32 .f32) : FVec Ideal S16x1024x32 .f32 :=
  addf z (subf q z)

/-- The mean of the squares of the differences `x − y`. -/
def meanSquare (x y : FVec Ideal S16x1024x32 .f32) : FVec Ideal S_ .f32 :=
  Host.divf
    (Host.reduceAdd (mulf (subf x y) (subf x y)) (constant (F := Ideal) S_ .f32 0x00000000#32)
      reducesTo_S16x1024x32_S_d0_1_2 h_S_)
    (constant (F := Ideal) S_ .f32 0x49000000#32)

/-- The loss: the codebook's mean square and the commitment's, each with weight one. -/
def loss (z q : FVec Ideal S16x1024x32 .f32) : FVec Ideal S_ .f32 :=
  addf (mulf (constant (F := Ideal) S_ .f32 0x3F800000#32) (meanSquare z q))
    (mulf (constant (F := Ideal) S_ .f32 0x3F800000#32) (meanSquare q z))

/-- The quantised vectors of the rows `x`, by batch and position. -/
def quantised (x : FVec Ideal S16384x32 .f32) (cb : FVec Ideal S8192x32 .f32) : FVec Ideal S16x1024x32 .f32 :=
  unrows (entries cb (nearest (distances x cb)))

/-- Laying the rows of an array out by batch and position again gives the array back. -/
theorem unrows_rows (z : FVec Ideal S16x1024x32 .f32) : unrows (rows z) = z := by
  unfold unrows rows
  rw [shapeCast_comp, shapeCast_id]

end Cert.Quantiser

end
-- ==== Proof.KernelHost.lean ====
/- The kernel's host operations after its launch: what each of the four lines leaves in the buffers read after it, from
   any contents `X` of the buffers. -/
module

public import proofs.«01_k».proof.Proof.Functions
public import proofs.«01_k».proof.Proof.Gen.KernelIdeal.Launch
public import Idealize.ShloMosaic.Lib.Pipeline.Frame
public import Idealize.ShloMosaic.Lib.StableHlo.RunRead

@[expose] public section

noncomputable section

namespace Cert.Quantiser.Kernel

open Idealize.ShloMosaic Idealize.ShloMosaic.TcCoe Idealize.SL.Sem
open Idealize.ShloMosaic.StableHlo (after)
open Cert.KernelIdeal Cert.KernelIdeal.Gen

variable (X : Valuation τ sig (Elt Ideal))

/-- The first line lays the launch's rows out by batch and position. -/
theorem hostOps1_v3 : after (hostOps1 (F := Ideal)) X (Proc.devRef .tc main_v3)
    = unrows (X (Proc.devRef .tc main_v2)) := by
  after_reads_simp
  rfl

/-- The first line leaves the distances of the launch's rows to the codebook. -/
theorem hostOps1_v17 : after (hostOps1 (F := Ideal)) X (Proc.devRef .tc main_v17)
    = distances (X (Proc.devRef .tc main_v2)) (X (Proc.devRef .tc main_arg3)) := by
  after_reads_simp
  rfl

/-- The first line leaves the codebook alone. -/
theorem hostOps1_arg3 : after (hostOps1 (F := Ideal)) X (Proc.devRef .tc main_arg3) = X (Proc.devRef .tc main_arg3) := by
  after_reads_simp

/-- The second line leaves the nearest indices. -/
theorem hostOps1_1_v18 : after (hostOps1_1 (F := Ideal)) X (Proc.devRef .tc main_v18)
    = nearest (X (Proc.devRef .tc main_v17)) := by
  after_reads_simp
  rfl

/-- The second line leaves the latents alone. -/
theorem hostOps1_1_v3 : after (hostOps1_1 (F := Ideal)) X (Proc.devRef .tc main_v3) = X (Proc.devRef .tc main_v3) := by
  after_reads_simp

/-- The second line leaves the codebook alone. -/
theorem hostOps1_1_arg3 : after (hostOps1_1 (F := Ideal)) X (Proc.devRef .tc main_arg3) = X (Proc.devRef .tc main_arg3) := by
  after_reads_simp

set_option maxRecDepth 65536 in
/-- The third line leaves the codebook's entries at the indices. -/
theorem hostOps1_2_v19 : after (hostOps1_2 (F := Ideal)) X (Proc.devRef .tc main_v19)
    = entries (X (Proc.devRef .tc main_arg3)) (X (Proc.devRef .tc main_v18)) := by
  after_reads_simp
  rfl

/-- The third line leaves the latents alone. -/
theorem hostOps1_2_v3 : after (hostOps1_2 (F := Ideal)) X (Proc.devRef .tc main_v3) = X (Proc.devRef .tc main_v3) := by
  after_reads_simp

/-- The last line leaves the straight-through output. -/
theorem hostOps1_3_v22 : after (hostOps1_3 (F := Ideal)) X (Proc.devRef .tc main_v22)
    = straightThrough (X (Proc.devRef .tc main_v3)) (unrows (X (Proc.devRef .tc main_v19))) := by
  after_reads_simp
  rfl

/-- The last line leaves the loss. -/
theorem hostOps1_3_v33 : after (hostOps1_3 (F := Ideal)) X (Proc.devRef .tc main_v33)
    = loss (X (Proc.devRef .tc main_v3)) (unrows (X (Proc.devRef .tc main_v19))) := by
  after_reads_simp
  rfl

/-- The operations after the launch, all of them, in order. -/
abbrev tail : List (HloOp τ sig (Elt Ideal)) := [hostOps1 (F := Ideal), hostOps1_1, hostOps1_2, hostOps1_3].flatten

/-- The first result after the launch and the whole line: the straight-through output of the launch's rows. -/
theorem tail_v22 : after tail X (Proc.devRef .tc main_v22)
    = straightThrough (unrows (X (Proc.devRef .tc main_v2)))
        (quantised (X (Proc.devRef .tc main_v2)) (X (Proc.devRef .tc main_arg3))) := by
  unfold tail
  rw [List.flatten_cons, List.flatten_cons, List.flatten_cons, List.flatten_cons, List.flatten_nil, List.append_nil,
    StableHlo.after_append, StableHlo.after_append, StableHlo.after_append, hostOps1_3_v22, hostOps1_2_v3, hostOps1_2_v19,
    hostOps1_1_v3, hostOps1_1_v18, hostOps1_1_arg3, hostOps1_v3, hostOps1_v17, hostOps1_arg3]
  rfl

/-- The second result after the launch and the whole line: the loss of the launch's rows. -/
theorem tail_v33 : after tail X (Proc.devRef .tc main_v33)
    = loss (unrows (X (Proc.devRef .tc main_v2)))
        (quantised (X (Proc.devRef .tc main_v2)) (X (Proc.devRef .tc main_arg3))) := by
  unfold tail
  rw [List.flatten_cons, List.flatten_cons, List.flatten_cons, List.flatten_cons, List.flatten_nil, List.append_nil,
    StableHlo.after_append, StableHlo.after_append, StableHlo.after_append, hostOps1_3_v33, hostOps1_2_v3, hostOps1_2_v19,
    hostOps1_1_v3, hostOps1_1_v18, hostOps1_1_arg3, hostOps1_v3, hostOps1_v17, hostOps1_arg3]
  rfl

end Cert.Quantiser.Kernel

end
-- ==== Proof.Launch.lean ====
/- What the kernel's launch leaves: grid point `t` computes rows `256 t … 256 t + 255` of the latents, laid out as rows,
   and the 64 points together the whole array. -/
module

public import proofs.«01_k».proof.Proof.Functions
public import proofs.«01_k».proof.Proof.Gen.KernelIdeal.Frame
public import Idealize.ShloMosaic.Lib.Pipeline.ValueKit
public import Idealize.ShloMosaic.Lib.Pointwise
public import Idealize.ShloMosaic.Lib.Claim

@[expose] public section

noncomputable section

namespace Cert.Quantiser.Kernel

open Idealize.ShloMosaic Idealize.ShloMosaic.TcCoe Idealize.SL.Sem
open Idealize.ShloMosaic.Pipeline (Dat)
open Cert.KernelIdeal Cert.KernelIdeal.Gen

/-- A block's payload at row `r` and channel `j`: the row's product with the weights, and the bias. -/
theorem payload_apply (x : FVec Ideal S256x256 .f32) (w : FVec Ideal S256x32 .f32) (b : FVec Ideal S1x32 .f32)
    (i : S256x32.Idx) :
    k0_pay1 x w b i = ∑ k : Fin 256, x (ix2 (i 0) k) * w (ix2 k (i 1)) + b (ix2 0 (i 1)) := by
  unfold k0_pay1
  pointwise

/-- The latents laid out as rows, at row `r` and channel `j`: the input row's product with the weights, and the bias. -/
theorem rows_latents_apply (h : FVec Ideal S16x1024x256 .f32) (w : FVec Ideal S256x32 .f32) (b : FVec Ideal S32 .f32)
    (i : S16384x32.Idx) :
    rows (latents h w b) i = ∑ k : Fin 256, shapeCast S16384x256 h shapeCasts_S16x1024x256_S16384x256 (ix2 (i 0) k) * w (ix2 k (i 1))
      + shapeCast S1x32 b shapeCasts_S32_S1x32 (ix2 0 (i 1)) := by
  unfold rows latents
  pointwise

variable (m : (ℓ : Loc nD τ sig) → Buf (Elt Ideal) ℓ)

/-- The index maps: the input rows and the output move with the point, the weights and the bias stay. -/
theorem idx (t : Fin cfg0.N) : win0_0.index t = ![t.val, 0] ∧ win0_1.index t = ![0, 0] ∧ win0_2.index t = ![0, 0]
    ∧ win0_3.index t = ![t.val, 0] := by
  revert t
  decide +kernel

/-- The latents of device `c`'s arguments. -/
abbrev z (c : Dev nD) : FVec Ideal S16x1024x32 .f32 :=
  latents (m ((c.tc : Thread nD τ).loc main_arg0)) (m ((c.tc : Thread nD τ).loc main_arg1)) (m ((c.tc : Thread nD τ).loc main_arg2))

/-- The launch leaves the latents, laid out as rows, in its output array. -/
theorem array_eq (c : Dev nD) : (dats m 0 c).arrAt 3 cfg0.N = rows (z m c) := by
  refine (dats m 0 c).arrAt_eq_of_covers 3 _ (by decide +kernel) fun t hf y => ?_
  blk_simp
  rw [after0_3]
  frame_out
  rw [payload_apply, rows_latents_apply]
  blk_point [iblk, V, idx t]

end Cert.Quantiser.Kernel

end
-- ==== Proof.KernelRun.lean ====
/- The kernel's run: the launch leaves the latents laid out as rows, and the host operations after it their
   straight-through output and their loss. -/
module

public import proofs.«01_k».proof.Proof.KernelHost
public import proofs.«01_k».proof.Proof.Launch

@[expose] public section

noncomputable section

namespace Cert.Quantiser.Kernel

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The quantised vectors of the latents of device `c`'s arguments. -/
abbrev q (c : Dev nD) : FVec Ideal S16x1024x32 .f32 := quantised (rows (z m c)) (m ((c.tc : Thread nD τ).loc main_arg3))

/-- The buffers' contents as the launch leaves them. -/
abbrev launched (c : Dev nD) : Valuation τ sig (Elt Ideal) :=
  Pipeline.withArrays spec0 c (V0 m c) fun w => (dats m 0 c).arrAt w cfg0.N

/-- After the launch its output array holds the latents' rows. -/
theorem launched_v2 (c : Dev nD) : launched m c (Proc.devRef .tc main_v2) = rows (z m c) :=
  (Pipeline.withArrays_arr spec0 winFacts0.arr_inj c (V0 m c) _ 3).trans (array_eq m c)

/-- After the launch the codebook is as it was. -/
theorem launched_arg3 (c : Dev nD) : launched m c (Proc.devRef .tc main_arg3) = m ((c.tc : Thread nD τ).loc main_arg3) :=
  (Pipeline.withArrays_of_ne spec0 c (V0 m c) _ main_arg3 (by exact (by decide : ∀ w, Pipeline.arrRef spec0 w ≠ main_arg3))).trans
    (V_main_arg3 m c)

/-- The first result: the straight-through output. -/
theorem afterTail_v22 (c : Dev nD) :
    Pipeline.afterTail₀ cfgs (dats m) 0 (V0 m) [hostOps1, hostOps1_1, hostOps1_2, hostOps1_3] c main_v22
      = straightThrough (z m c) (q m c) := by
  refine (tail_v22 (launched m c)).trans ?_
  rw [launched_v2, launched_arg3, unrows_rows]

/-- The second result: the loss. -/
theorem afterTail_v33 (c : Dev nD) :
    Pipeline.afterTail₀ cfgs (dats m) 0 (V0 m) [hostOps1, hostOps1_1, hostOps1_2, hostOps1_3] c main_v33
      = loss (z m c) (q m c) := by
  refine (tail_v33 (launched m c)).trans ?_
  rw [launched_v2, launched_arg3, unrows_rows]

/-- The kernel runs to the straight-through output and the loss of its arguments. -/
theorem results : θ_run (defs (F := Ideal)) (onTc (τ := τ) (main (F := Ideal))) ⟨m, fun _ => 0, ρ⟩ fun r => ∀ c : Dev nD,
    r.2.mem ((c.tc : Thread nD τ).loc main_v22) = straightThrough (z m c) (q m c)
      ∧ r.2.mem ((c.tc : Thread nD τ).loc main_v33) = loss (z m c) (q m c) :=
  θ_run_mono (run_main m ρ) fun _ h c =>
    ⟨((h c).2 main_v22 (Pipeline.mem_restRefs_of main_v22 (by decide) (by decide))).trans (afterTail_v22 m c),
      ((h c).2 main_v33 (Pipeline.mem_restRefs_of main_v33 (by decide) (by decide))).trans (afterTail_v33 m c)⟩

/-- The kernel runs to the two results, with its arguments as they were. -/
theorem run : θ_run (defs (F := Ideal)) (onTc (τ := τ) (main (F := Ideal))) ⟨m, fun _ => 0, ρ⟩ fun r => ∀ c : Dev nD,
    r.2.mem ((c.tc : Thread nD τ).loc main_v22) = straightThrough (z m c) (q m c)
      ∧ r.2.mem ((c.tc : Thread nD τ).loc main_v33) = loss (z m c) (q m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (θ_run_and (results m ρ) (unchanged m ρ)) fun _ h c => ⟨(h.1 c).1, (h.1 c).2, h.2 c⟩

end Cert.Quantiser.Kernel

end
-- ==== Proof.ReferenceRun.lean ====
/- The reference program's run: its four lines of host operations in order, what each leaves in the buffers that the
   next ones read, and with that its two results and its unchanged arguments. -/
module

public import proofs.«01_k».proof.Proof.Functions
public import Idealize.ShloMosaic.Lib.Claim
public import Idealize.ShloMosaic.Lib.Quiescent
public import Idealize.ShloMosaic.Lib.Pipeline.Regions
public import Idealize.ShloMosaic.Lib.Pipeline.Frame
public import Idealize.ShloMosaic.Lib.StableHlo.RunRead

@[expose] public section

noncomputable section

namespace Cert.Quantiser.Reference

open Idealize.ShloMosaic Idealize.ShloMosaic.TcCoe Idealize.SL.Sem
open Idealize.ShloMosaic.StableHlo (after)
open Cert.ReferenceIdeal
open Cert.ReferenceIdeal.Facts₀ Cert.ReferenceIdeal.Facts

section Lines

variable {F : FTy → Type} [FloatOps F]

/-- The latents `z`, then every row's squared distance to every codebook entry. -/
abbrev latentOps : List (HloOp τ sig (Elt F)) :=
  [ StableHlo.binary main_arg0 main_arg1 main_v0 ((fun l r => Host.dotGeneral dot_S16x1024x256_S256x32_S16x1024x32_2_0_01_1_n_n none l r) : (⟨S16x1024x256, .f32⟩ : BufTy).Contents (Elt F) → (⟨S256x32, .f32⟩ : BufTy).Contents (Elt F) → (⟨S16x1024x32, .f32⟩ : BufTy).Contents (Elt F)),
    StableHlo.unary main_arg2 main_v1 (broadcastInDim S1x1x32 ![2] bcast_S32_S1x1x32_2 : (⟨S32, .f32⟩ : BufTy).Contents (Elt F) → (⟨S1x1x32, .f32⟩ : BufTy).Contents (Elt F)),
    StableHlo.unary main_v1 main_v2 (broadcastInDim S16x1024x32 ![0, 1, 2] bcast_S1x1x32_S16x1024x32_0_1_2 : (⟨S1x1x32, .f32⟩ : BufTy).Contents (Elt F) → (⟨S16x1024x32, .f32⟩ : BufTy).Contents (Elt F)),
    StableHlo.binary main_v0 main_v2 main_v3 (addf : (⟨S16x1024x32, .f32⟩ : BufTy).Contents (Elt F) → (⟨S16x1024x32, .f32⟩ : BufTy).Contents (Elt F) → (⟨S16x1024x32, .f32⟩ : BufTy).Contents (Elt F)),
    StableHlo.reshape main_v3 main_v4 (rfl : (.f32 : EltTy) = .f32) shapeCasts_S16x1024x32_S16384x32,
    StableHlo.binary main_arg3 main_arg3 main_v5 (mulf : (⟨S8192x32, .f32⟩ : BufTy).Contents (Elt F) → (⟨S8192x32, .f32⟩ : BufTy).Contents (Elt F) → (⟨S8192x32, .f32⟩ : BufTy).Contents (Elt F)),
    StableHlo.nullary main_cst (constant S_ .f32 0x00000000#32),
    StableHlo.binary main_v5 main_cst main_v6 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    StableHlo.binary main_v4 main_v4 main_v7 (mulf : (⟨S16384x32, .f32⟩ : BufTy).Contents (Elt F) → (⟨S16384x32, .f32⟩ : BufTy).Contents (Elt F) → (⟨S16384x32, .f32⟩ : BufTy).Contents (Elt F)),
    StableHlo.nullary main_cst_0 (constant S_ .f32 0x00000000#32),
    StableHlo.binary main_v7 main_cst_0 main_v8 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    StableHlo.unary main_v8 main_v9 (broadcastInDim S16384x1 ![0] bcast_S16384_S16384x1_0 : (⟨S16384, .f32⟩ : BufTy).Contents (Elt F) → (⟨S16384x1, .f32⟩ : BufTy).Contents (Elt F)),
    StableHlo.unary main_v6 main_v10 (broadcastInDim S1x8192 ![1] bcast_S8192_S1x8192_1 : (⟨S8192, .f32⟩ : BufTy).Contents (Elt F) → (⟨S1x8192, .f32⟩ : BufTy).Contents (Elt F)),
    StableHlo.unary main_v10 main_v11 (broadcastInDim S16384x8192 ![0, 1] bcast_S1x8192_S16384x8192_0_1 : (⟨S1x8192, .f32⟩ : BufTy).Contents (Elt F) → (⟨S16384x8192, .f32⟩ : BufTy).Contents (Elt F)),
    StableHlo.unary main_v9 main_v12 (broadcastInDim S16384x8192 ![0, 1] bcast_S16384x1_S16384x8192_0_1 : (⟨S16384x1, .f32⟩ : BufTy).Contents (Elt F) → (⟨S16384x8192, .f32⟩ : BufTy).Contents (Elt F)),
    StableHlo.binary main_v11 main_v12 main_v13 (addf : (⟨S16384x8192, .f32⟩ : BufTy).Contents (Elt F) → (⟨S16384x8192, .f32⟩ : BufTy).Contents (Elt F) → (⟨S16384x8192, .f32⟩ : BufTy).Contents (Elt F)),
    StableHlo.unary main_arg3 main_v14 ((transpose S32x8192 [1, 0] · transposes_S8192x32_S32x8192_1_0) : (⟨S8192x32, .f32⟩ : BufTy).Contents (Elt F) → (⟨S32x8192, .f32⟩ : BufTy).Contents (Elt F)),
    StableHlo.binary main_v4 main_v14 main_v15 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
    StableHlo.nullary main_cst_1 (constant S_ .f32 0x40000000#32),
    StableHlo.unary main_cst_1 main_v16 (broadcastInDim S16384x8192 ![] bcast_S_S16384x8192 : (⟨S_, .f32⟩ : BufTy).Contents (Elt F) → (⟨S16384x8192, .f32⟩ : BufTy).Contents (Elt F)),
    StableHlo.binary main_v16 main_v15 main_v17 (mulf : (⟨S16384x8192, .f32⟩ : BufTy).Contents (Elt F) → (⟨S16384x8192, .f32⟩ : BufTy).Contents (Elt F) → (⟨S16384x8192, .f32⟩ : BufTy).Contents (Elt F)),
    StableHlo.binary main_v13 main_v17 main_v18 (subf : (⟨S16384x8192, .f32⟩ : BufTy).Contents (Elt F) → (⟨S16384x8192, .f32⟩ : BufTy).Contents (Elt F) → (⟨S16384x8192, .f32⟩ : BufTy).Contents (Elt F)) ]

/-- The index of the nearest codebook entry, row by row. -/
abbrev argminOps : List (HloOp τ sig (Elt F)) :=
  [ StableHlo.TRef.nullary (.of main_call0_v0 : StableHlo.TRef sig ⟨S16384x8192, .i32⟩) (iotaInDim S16384x8192 32 1),
    StableHlo.TRef.nullary (.of main_call0_cst : StableHlo.TRef sig ⟨S_, .f32⟩) (constant S_ .f32 0x7F800000#32),
    StableHlo.TRef.nullary (.of main_call0_c : StableHlo.TRef sig ⟨S_, .i32⟩) (constantI S_ 32 0#32),
    StableHlo.TRef.quaternary (.of main_v18 : StableHlo.TRef sig ⟨S16384x8192, .f32⟩) (.of main_call0_v0 : StableHlo.TRef sig ⟨S16384x8192, .i32⟩) (.of main_call0_cst : StableHlo.TRef sig ⟨S_, .f32⟩) (.of main_call0_c : StableHlo.TRef sig ⟨S_, .i32⟩) (.of main_call0_v1_0 : StableHlo.TRef sig ⟨S16384, .f32⟩) (fun x y u v j => (Host.argReduce reducer_argmin_f32_i32 x y u v reducesTo_S16384x8192_S16384_d1 h_S_ j).1),
    StableHlo.TRef.quaternary (.of main_v18 : StableHlo.TRef sig ⟨S16384x8192, .f32⟩) (.of main_call0_v0 : StableHlo.TRef sig ⟨S16384x8192, .i32⟩) (.of main_call0_cst : StableHlo.TRef sig ⟨S_, .f32⟩) (.of main_call0_c : StableHlo.TRef sig ⟨S_, .i32⟩) (.of main_v19 : StableHlo.TRef sig ⟨S16384, .i32⟩) (fun x y u v j => (Host.argReduce reducer_argmin_f32_i32 x y u v reducesTo_S16384x8192_S16384_d1 h_S_ j).2) ]

/-- The codebook entries at those indices. -/
abbrev takeOps : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S16384, .i32⟩) (broadcastInDim S16384 ![] bcast_S_S16384),
    StableHlo.TRef.binary (.of main_v19 : StableHlo.TRef sig ⟨S16384, .i32⟩) (.of main_call1_v0 : StableHlo.TRef sig ⟨S16384, .i32⟩) (.of main_call1_v1 : StableHlo.TRef sig ⟨S16384, .i1⟩) (cmpi .slt),
    StableHlo.TRef.nullary (.of main_call1_c_0 : StableHlo.TRef sig ⟨S_, .i32⟩) (constantI S_ 32 8192#32),
    StableHlo.TRef.unary (.of main_call1_c_0 : StableHlo.TRef sig ⟨S_, .i32⟩) (.of main_call1_v2 : StableHlo.TRef sig ⟨S16384, .i32⟩) (broadcastInDim S16384 ![] bcast_S_S16384),
    StableHlo.TRef.binary (.of main_v19 : StableHlo.TRef sig ⟨S16384, .i32⟩) (.of main_call1_v2 : StableHlo.TRef sig ⟨S16384, .i32⟩) (.of main_call1_v3 : StableHlo.TRef sig ⟨S16384, .i32⟩) addi,
    StableHlo.TRef.ternary (.of main_call1_v1 : StableHlo.TRef sig ⟨S16384, .i1⟩) (.of main_call1_v3 : StableHlo.TRef sig ⟨S16384, .i32⟩) (.of main_v19 : StableHlo.TRef sig ⟨S16384, .i32⟩) (.of main_call1_v4 : StableHlo.TRef sig ⟨S16384, .i32⟩) select,
    StableHlo.TRef.unary (.of main_call1_v4 : StableHlo.TRef sig ⟨S16384, .i32⟩) (.of main_call1_v5 : StableHlo.TRef sig ⟨S16384x1, .i32⟩) (broadcastInDim S16384x1 ![0] bcast_S16384_S16384x1_0),
    StableHlo.TRef.nullary (.of main_call1_c_1 : StableHlo.TRef sig ⟨S1, .i32⟩) (constantI S1 32 8191#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S16384x1, .i32⟩) (broadcastInDim S16384x1 ![] bcast_S_S16384x1),
    StableHlo.TRef.binary (.of main_call1_v5 : StableHlo.TRef sig ⟨S16384x1, .i32⟩) (.of main_call1_v6 : StableHlo.TRef sig ⟨S16384x1, .i32⟩) (.of main_call1_v7 : StableHlo.TRef sig ⟨S16384x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S16384x1, .i32⟩) (broadcastInDim S16384x1 ![0, 1] bcast_S1x1_S16384x1_0_1),
    StableHlo.TRef.binary (.of main_call1_v5 : StableHlo.TRef sig ⟨S16384x1, .i32⟩) (.of main_call1_v9 : StableHlo.TRef sig ⟨S16384x1, .i32⟩) (.of main_call1_v10 : StableHlo.TRef sig ⟨S16384x1, .i1⟩) (cmpi .sle),
    StableHlo.TRef.binary (.of main_call1_v7 : StableHlo.TRef sig ⟨S16384x1, .i1⟩) (.of main_call1_v10 : StableHlo.TRef sig ⟨S16384x1, .i1⟩) (.of main_call1_v11 : StableHlo.TRef sig ⟨S16384x1, .i1⟩) andi,
    StableHlo.TRef.nullary (.of main_call1_c_3 : StableHlo.TRef sig ⟨S_, .i1⟩) (constantI S_ 1 1#1),
    StableHlo.TRef.binary (.of main_call1_v11 : StableHlo.TRef sig ⟨S16384x1, .i1⟩) (.of main_call1_c_3 : StableHlo.TRef sig ⟨S_, .i1⟩) (.of main_call1_v12 : StableHlo.TRef sig ⟨S16384, .i1⟩) (fun x v => Host.reduce IntOp.andi x v reducesTo_S16384x1_S16384_d1 h_S_),
    StableHlo.TRef.binary (.of main_arg3 : StableHlo.TRef sig ⟨S8192x32, .f32⟩) (.of main_call1_v5 : StableHlo.TRef sig ⟨S16384x1, .i32⟩) (.of main_call1_v13 : StableHlo.TRef sig ⟨S16384x32, .f32⟩) (fun x i => Host.gather gather_S8192x32_S16384x1_S16384x32_1_0_n_n_0_1_132 x i),
    StableHlo.TRef.unary (.of main_call1_v12 : StableHlo.TRef sig ⟨S16384, .i1⟩) (.of main_call1_v14 : StableHlo.TRef sig ⟨S16384x32, .i1⟩) (broadcastInDim S16384x32 ![0] bcast_S16384_S16384x32_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S16384x32, .f32⟩) (broadcastInDim S16384x32 ![] bcast_S_S16384x32),
    StableHlo.TRef.ternary (.of main_call1_v14 : StableHlo.TRef sig ⟨S16384x32, .i1⟩) (.of main_call1_v13 : StableHlo.TRef sig ⟨S16384x32, .f32⟩) (.of main_call1_v15 : StableHlo.TRef sig ⟨S16384x32, .f32⟩) (.of main_v20 : StableHlo.TRef sig ⟨S16384x32, .f32⟩) select ]

/-- The straight-through output and the loss. -/
abbrev resultOps : List (HloOp τ sig (Elt F)) :=
  [ StableHlo.reshape main_v20 main_v21 (rfl : (.f32 : EltTy) = .f32) shapeCasts_S16384x32_S16x1024x32,
    StableHlo.binary main_v21 main_v3 main_v22 (subf : (⟨S16x1024x32, .f32⟩ : BufTy).Contents (Elt F) → (⟨S16x1024x32, .f32⟩ : BufTy).Contents (Elt F) → (⟨S16x1024x32, .f32⟩ : BufTy).Contents (Elt F)),
    StableHlo.binary main_v3 main_v22 main_v23 (addf : (⟨S16x1024x32, .f32⟩ : BufTy).Contents (Elt F) → (⟨S16x1024x32, .f32⟩ : BufTy).Contents (Elt F) → (⟨S16x1024x32, .f32⟩ : BufTy).Contents (Elt F)),
    StableHlo.binary main_v21 main_v3 main_v24 (subf : (⟨S16x1024x32, .f32⟩ : BufTy).Contents (Elt F) → (⟨S16x1024x32, .f32⟩ : BufTy).Contents (Elt F) → (⟨S16x1024x32, .f32⟩ : BufTy).Contents (Elt F)),
    StableHlo.binary main_v24 main_v24 main_v25 (mulf : (⟨S16x1024x32, .f32⟩ : BufTy).Contents (Elt F) → (⟨S16x1024x32, .f32⟩ : BufTy).Contents (Elt F) → (⟨S16x1024x32, .f32⟩ : BufTy).Contents (Elt F)),
    StableHlo.nullary main_cst_2 (constant S_ .f32 0x00000000#32),
    StableHlo.binary main_v25 main_cst_2 main_v26 ((fun x v => Host.reduceAdd x v reducesTo_S16x1024x32_S_d0_1_2 h_S_) : (⟨S16x1024x32, .f32⟩ : BufTy).Contents (Elt F) → (⟨S_, .f32⟩ : BufTy).Contents (Elt F) → (⟨S_, .f32⟩ : BufTy).Contents (Elt F)),
    StableHlo.nullary main_cst_3 (constant S_ .f32 0x49000000#32),
    StableHlo.binary main_v26 main_cst_3 main_v27 (Host.divf : (⟨S_, .f32⟩ : BufTy).Contents (Elt F) → (⟨S_, .f32⟩ : BufTy).Contents (Elt F) → (⟨S_, .f32⟩ : BufTy).Contents (Elt F)),
    StableHlo.binary main_v3 main_v21 main_v28 (subf : (⟨S16x1024x32, .f32⟩ : BufTy).Contents (Elt F) → (⟨S16x1024x32, .f32⟩ : BufTy).Contents (Elt F) → (⟨S16x1024x32, .f32⟩ : BufTy).Contents (Elt F)),
    StableHlo.binary main_v28 main_v28 main_v29 (mulf : (⟨S16x1024x32, .f32⟩ : BufTy).Contents (Elt F) → (⟨S16x1024x32, .f32⟩ : BufTy).Contents (Elt F) → (⟨S16x1024x32, .f32⟩ : BufTy).Contents (Elt F)),
    StableHlo.nullary main_cst_4 (constant S_ .f32 0x00000000#32),
    StableHlo.binary main_v29 main_cst_4 main_v30 ((fun x v => Host.reduceAdd x v reducesTo_S16x1024x32_S_d0_1_2 h_S_) : (⟨S16x1024x32, .f32⟩ : BufTy).Contents (Elt F) → (⟨S_, .f32⟩ : BufTy).Contents (Elt F) → (⟨S_, .f32⟩ : BufTy).Contents (Elt F)),
    StableHlo.nullary main_cst_5 (constant S_ .f32 0x49000000#32),
    StableHlo.binary main_v30 main_cst_5 main_v31 (Host.divf : (⟨S_, .f32⟩ : BufTy).Contents (Elt F) → (⟨S_, .f32⟩ : BufTy).Contents (Elt F) → (⟨S_, .f32⟩ : BufTy).Contents (Elt F)),
    StableHlo.nullary main_cst_6 (constant S_ .f32 0x3F800000#32),
    StableHlo.binary main_cst_6 main_v31 main_v32 (mulf : (⟨S_, .f32⟩ : BufTy).Contents (Elt F) → (⟨S_, .f32⟩ : BufTy).Contents (Elt F) → (⟨S_, .f32⟩ : BufTy).Contents (Elt F)),
    StableHlo.nullary main_cst_7 (constant S_ .f32 0x3F800000#32),
    StableHlo.binary main_cst_7 main_v27 main_v33 (mulf : (⟨S_, .f32⟩ : BufTy).Contents (Elt F) → (⟨S_, .f32⟩ : BufTy).Contents (Elt F) → (⟨S_, .f32⟩ : BufTy).Contents (Elt F)),
    StableHlo.binary main_v32 main_v33 main_v34 (addf : (⟨S_, .f32⟩ : BufTy).Contents (Elt F) → (⟨S_, .f32⟩ : BufTy).Contents (Elt F) → (⟨S_, .f32⟩ : BufTy).Contents (Elt F)) ]

/-- The program's operations, all of them, in order. -/
abbrev ops : List (HloOp τ sig (Elt F)) := latentOps ++ (argminOps ++ (takeOps ++ resultOps))

set_option maxRecDepth 65536 in
/-- `main` runs the four lines one after the other. -/
theorem main_chain (c : Dev nD) : main (F := F) c = (Pipeline.chain
    [StableHlo.seq latentOps, StableHlo.seq argminOps, StableHlo.seq takeOps, StableHlo.seq resultOps] :
      Prog (TpuEff nD τ sig (Elt F) (Pipeline.Sig Λ₀ (Fin 0) fun p => (pcfgs (F := F) p).Adm) .tc) PUnit) := by
  rewrite [StableHlo.chain_seq_cons, Pipeline.chain_cons, Pipeline.chain_cons, StableHlo.chain_seq_cons]
  chain_rfl

/-- `main` is the straight line of all its operations. -/
theorem main_eq (c : Dev nD) : main (F := F) c = StableHlo.seq ops := by
  rw [main_chain, StableHlo.seq_append, StableHlo.seq_append, StableHlo.seq_append]
  simp only [Pipeline.chain_cons, Pipeline.chain_nil, bind_pure_unit]

end Lines

/-! ## What each line leaves in the buffers read after it -/

section Reads

variable (X : Valuation τ sig (Elt Ideal))

/-- The first line leaves the latents. -/
theorem latentOps_v3 : after (latentOps (F := Ideal)) X (Proc.devRef .tc main_v3)
    = latents (X (Proc.devRef .tc main_arg0)) (X (Proc.devRef .tc main_arg1)) (X (Proc.devRef .tc main_arg2)) := by
  after_reads_simp
  rfl

/-- The first line leaves the distances of the latents' rows to the codebook. -/
theorem latentOps_v18 : after (latentOps (F := Ideal)) X (Proc.devRef .tc main_v18)
    = distances (rows (latents (X (Proc.devRef .tc main_arg0)) (X (Proc.devRef .tc main_arg1)) (X (Proc.devRef .tc main_arg2))))
        (X (Proc.devRef .tc main_arg3)) := by
  after_reads_simp
  rfl

/-- The first line leaves the codebook alone. -/
theorem latentOps_arg3 : after (latentOps (F := Ideal)) X (Proc.devRef .tc main_arg3) = X (Proc.devRef .tc main_arg3) := by
  after_reads_simp

/-- The second line leaves the nearest indices. -/
theorem argminOps_v19 : after (argminOps (F := Ideal)) X (Proc.devRef .tc main_v19)
    = nearest (X (Proc.devRef .tc main_v18)) := by
  after_reads_simp
  rfl

/-- The second line leaves the latents alone. -/
theorem argminOps_v3 : after (argminOps (F := Ideal)) X (Proc.devRef .tc main_v3) = X (Proc.devRef .tc main_v3) := by
  after_reads_simp

/-- The second line leaves the codebook alone. -/
theorem argminOps_arg3 : after (argminOps (F := Ideal)) X (Proc.devRef .tc main_arg3) = X (Proc.devRef .tc main_arg3) := by
  after_reads_simp

set_option maxRecDepth 65536 in
/-- The third line leaves the codebook's entries at the indices. -/
theorem takeOps_v20 : after (takeOps (F := Ideal)) X (Proc.devRef .tc main_v20)
    = entries (X (Proc.devRef .tc main_arg3)) (X (Proc.devRef .tc main_v19)) := by
  after_reads_simp
  rfl

/-- The third line leaves the latents alone. -/
theorem takeOps_v3 : after (takeOps (F := Ideal)) X (Proc.devRef .tc main_v3) = X (Proc.devRef .tc main_v3) := by
  after_reads_simp

/-- The last line leaves the straight-through output. -/
theorem resultOps_v23 : after (resultOps (F := Ideal)) X (Proc.devRef .tc main_v23)
    = straightThrough (X (Proc.devRef .tc main_v3)) (unrows (X (Proc.devRef .tc main_v20))) := by
  after_reads_simp
  rfl

/-- The last line leaves the loss. -/
theorem resultOps_v34 : after (resultOps (F := Ideal)) X (Proc.devRef .tc main_v34)
    = loss (X (Proc.devRef .tc main_v3)) (unrows (X (Proc.devRef .tc main_v20))) := by
  after_reads_simp
  rfl

end Reads

/-! ## The whole line -/

/-- The line leaves argument 0 alone. -/
theorem ops_arg0 (X : Valuation τ sig (Elt Ideal)) :
    after (ops (F := Ideal)) X (Proc.devRef .tc main_arg0) = X (Proc.devRef .tc main_arg0) := by
  after_reads_simp

/-- The line leaves argument 1 alone. -/
theorem ops_arg1 (X : Valuation τ sig (Elt Ideal)) :
    after (ops (F := Ideal)) X (Proc.devRef .tc main_arg1) = X (Proc.devRef .tc main_arg1) := by
  after_reads_simp

/-- The line leaves argument 2 alone. -/
theorem ops_arg2 (X : Valuation τ sig (Elt Ideal)) :
    after (ops (F := Ideal)) X (Proc.devRef .tc main_arg2) = X (Proc.devRef .tc main_arg2) := by
  after_reads_simp

/-- The line leaves argument 3 alone. -/
theorem ops_arg3 (X : Valuation τ sig (Elt Ideal)) :
    after (ops (F := Ideal)) X (Proc.devRef .tc main_arg3) = X (Proc.devRef .tc main_arg3) := by
  after_reads_simp

/-- The first result after the whole line. -/
theorem ops_v23 (X : Valuation τ sig (Elt Ideal)) : after (ops (F := Ideal)) X (Proc.devRef .tc main_v23)
    = straightThrough (latents (X (Proc.devRef .tc main_arg0)) (X (Proc.devRef .tc main_arg1)) (X (Proc.devRef .tc main_arg2)))
        (quantised (rows (latents (X (Proc.devRef .tc main_arg0)) (X (Proc.devRef .tc main_arg1)) (X (Proc.devRef .tc main_arg2))))
          (X (Proc.devRef .tc main_arg3))) := by
  unfold ops
  rw [StableHlo.after_append, StableHlo.after_append, StableHlo.after_append, resultOps_v23, takeOps_v3, takeOps_v20, argminOps_v3,
    argminOps_v19, argminOps_arg3, latentOps_v3, latentOps_v18, latentOps_arg3]
  rfl

/-- The second result after the whole line. -/
theorem ops_v34 (X : Valuation τ sig (Elt Ideal)) : after (ops (F := Ideal)) X (Proc.devRef .tc main_v34)
    = loss (latents (X (Proc.devRef .tc main_arg0)) (X (Proc.devRef .tc main_arg1)) (X (Proc.devRef .tc main_arg2)))
        (quantised (rows (latents (X (Proc.devRef .tc main_arg0)) (X (Proc.devRef .tc main_arg1)) (X (Proc.devRef .tc main_arg2))))
          (X (Proc.devRef .tc main_arg3))) := by
  unfold ops
  rw [StableHlo.after_append, StableHlo.after_append, StableHlo.after_append, resultOps_v34, takeOps_v3, takeOps_v20, argminOps_v3,
    argminOps_v19, argminOps_arg3, latentOps_v3, latentOps_v18, latentOps_arg3]
  rfl

/-! ## The run -/

section Run

variable (m : (ℓ : Loc nD τ sig) → Buf (Elt Ideal) ℓ) (ρ : Dev nD → PrngReg)

/-- The latents of device `c`'s arguments. -/
abbrev z (c : Dev nD) : FVec Ideal S16x1024x32 .f32 :=
  latents (m ((c.tc : Thread nD τ).loc main_arg0)) (m ((c.tc : Thread nD τ).loc main_arg1)) (m ((c.tc : Thread nD τ).loc main_arg2))

/-- Their quantised vectors. -/
abbrev q (c : Dev nD) : FVec Ideal S16x1024x32 .f32 := quantised (rows (z m c)) (m ((c.tc : Thread nD τ).loc main_arg3))

/-- The program runs, and every buffer ends as the line of operations leaves it. -/
theorem run_ops : θ_run (defs (F := Ideal)) (onTc (τ := τ) (main (F := Ideal))) ⟨m, fun _ => 0, ρ⟩ fun r =>
    ∀ (c : Dev nD) (b : Ref sig .tc),
      r.2.mem ((c.tc : Thread nD τ).loc b) = after ops (StableHlo.launchContents m c) (Proc.devRef .tc b) :=
  StableHlo.run_hlo _ _ main_eq (by decide) (by decide) (by simp)
    (by intro _ h; (repeat (cases h with | head => rfl | tail _ h => ?_)); exact nomatch h) _ _

/-- The program runs to the straight-through output and the loss of the arguments, which it leaves as they were. -/
theorem run : θ_run (defs (F := Ideal)) (onTc (τ := τ) (main (F := Ideal))) ⟨m, fun _ => 0, ρ⟩ fun r => ∀ c : Dev nD,
      r.2.mem ((c.tc : Thread nD τ).loc main_v23) = straightThrough (z m c) (q m c)
      ∧ r.2.mem ((c.tc : Thread nD τ).loc main_v34) = loss (z m c) (q m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (run_ops m ρ) fun _ h c =>
    ⟨(h c _).trans (ops_v23 _), (h c _).trans (ops_v34 _), (h c _).trans (ops_arg0 _), (h c _).trans (ops_arg1 _),
      (h c _).trans (ops_arg2 _), (h c _).trans (ops_arg3 _)⟩

/-- The program ends with its arguments as they were and every counter at zero. -/
theorem frame : θ_run (defs (F := Ideal)) (onTc (τ := τ) (main (F := Ideal))) ⟨m, fun _ => 0, ρ⟩ fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  θ_run_mono (run m ρ) fun r h => ⟨fun c => (h c).2.2, sem_eq_zero_of_no_sems (by decide) r.2⟩

end Run

end Cert.Quantiser.Reference

end
-- ==== Proof.lean ====
/- The certificate: the kernel, its reading over the idealized numbers and the reference all end with their arguments as
   they were and every counter at zero, and over the idealized numbers the kernel's two results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.SL.Sem

/-- The kernel's two results are the reference's: both are the straight-through output and the loss of the latents,
    which the two programs hold as one function of the same arguments. -/
theorem algebraic : Cert.algebraic_KernelIdeal_ReferenceIdeal := by
  intro m g m' g' _ hagree
  refine ⟨fun c => Quantiser.straightThrough (Quantiser.Kernel.z m c) (Quantiser.Kernel.q m c),
    fun c => Quantiser.loss (Quantiser.Kernel.z m c) (Quantiser.Kernel.q m c), Quantiser.Kernel.run m g,
    θ_run_mono (Quantiser.Reference.run m' g') fun r h c => ?_⟩
  have hz : Quantiser.Reference.z m' c = Quantiser.Kernel.z m c := by
    unfold Quantiser.Reference.z
    rw [(hagree c).1, (hagree c).2.1, (hagree c).2.2.1]
  have hq : Quantiser.Reference.q m' c = Quantiser.Kernel.q m c := by
    unfold Quantiser.Reference.q
    rw [hz, (hagree c).2.2.2]
  have hc := h c
  rw [hz, hq] at hc
  exact hc

/-- The certificate's claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Quantiser.Reference.frame m ρ, trivial, algebraic⟩

end Cert.Proof

end
